-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x2048 : Shape := ⟨2, ![2048, 2048]⟩
abbrev S2048x1x2048 : Shape := ⟨3, ![2048, 1, 2048]⟩
abbrev S2048x4x2048 : Shape := ⟨3, ![2048, 4, 2048]⟩
abbrev S16x1x2048 : Shape := ⟨3, ![16, 1, 2048]⟩
abbrev S_ : Shape := ⟨0, ![]⟩

abbrev nBuf : Table → Nat
  | .hbm => 5
  | .local .scVector .vmem => 2
  | _ => 0

abbrev bufTy : (tb : Table) → Fin (nBuf tb) → BufTy
  | .hbm, ⟨0, _⟩ => ⟨S8192x2048, .f32⟩
  | .hbm, ⟨1, _⟩ => ⟨S2048x2048, .f32⟩
  | .hbm, ⟨2, _⟩ => ⟨S2048x1x2048, .f32⟩
  | .hbm, ⟨3, _⟩ => ⟨S2048x4x2048, .f32⟩
  | .hbm, ⟨4, _⟩ => ⟨S8192x2048, .f32⟩
  | .local .scVector .vmem, ⟨0, _⟩ => ⟨S16x1x2048, .f32⟩
  | .local .scVector .vmem, ⟨1, _⟩ => ⟨S16x1x2048, .f32⟩
  | _, _ => ⟨S8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_0 : BitVec 32 := 0#32
  let c0_i32_1 : BitVec 32 := 0#32
  ![v3.toNat, 0, 0]
def k0_off2 (i : grid0.Coords) (c0_i32_12 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v11 : BitVec 32 := Scalar.addi v2 c0_i32_12
  let c0_i32_13 : BitVec 32 := 0#32
  let c0_i32_14 : BitVec 32 := 0#32
  ![v11.toNat, 0, 0]
def k0_off3 (i : grid0.Coords) (c0_i32_17 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v14 : BitVec 32 := Scalar.addi v2 c0_i32_17
  let c1_i32 : BitVec 32 := 1#32
  let c0_i32_18 : BitVec 32 := 0#32
  ![v14.toNat, 1, 0]
def k0_off4 (i : grid0.Coords) (c0_i32_21 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v17 : BitVec 32 := Scalar.addi v2 c0_i32_21
  let c2_i32_22 : BitVec 32 := 2#32
  let c0_i32_23 : BitVec 32 := 0#32
  ![v17.toNat, 2, 0]
def k0_off5 (i : grid0.Coords) (c0_i32_26 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v20 : BitVec 32 := Scalar.addi v2 c0_i32_26
  let c3_i32 : BitVec 32 := 3#32
  let c0_i32_27 : BitVec 32 := 0#32
  ![v20.toNat, 3, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x2048 : Shape := ⟨2, ![8192, 2048]⟩
abbrev S2048x2048 : Shape := ⟨2, ![2048, 2048]⟩
abbrev S2048x4x2048 : Shape := ⟨3, ![2048, 4, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x4x2048, .f32⟩
  | .hbm, ⟨3, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Blocks.lean ====
/-
  The blocks the two arrays of the SparseCore call are cut into, and what the call leaves in its result.

  The call's operand `x` is (2048, 1, 2048) and its result `y` is (2048, 4, 2048). Tile `s` of SparseCore `c` handles the 64
  rows from `128 s + 64 c`, in four chunks of 16 rows. Chunk `n` of a tile is one block of `x`, and four blocks of `y`, one
  per copy `r` of the row. Everything here is plain arithmetic on coordinates: which indices a block holds, that blocks of
  different tiles, chunks or copies share no index, that together they are the whole array, and the array `y` must hold
  after the call (`rep`), read on one block.
-/
module

public import proofs.«01_k».proof.Defs
public import proofs.«01_k».proof.Proof.Gen.KernelIdeal
public import Idealize.ShloMosaic.Lib.ViewIndex

@[expose] public section

noncomputable section

namespace Cert.Proof

open Cert.KernelIdeal Cert.KernelIdeal.Gen
open Idealize.ShloMosaic

/-- The indices of `x` in chunk `n` of tile `s` of SparseCore `c`. -/
def inSet (c s n : ℕ) : Finset S2048x1x2048.Idx :=
  Finset.univ.filter fun i => 128 * s + 64 * c + 16 * n ≤ (i 0).val ∧ (i 0).val < 128 * s + 64 * c + 16 * n + 16

/-- The indices of `y` in copy `r` of chunk `n` of tile `s` of SparseCore `c`. -/
def outSet (c s n r : ℕ) : Finset S2048x4x2048.Idx :=
  Finset.univ.filter fun i => (128 * s + 64 * c + 16 * n ≤ (i 0).val ∧ (i 0).val < 128 * s + 64 * c + 16 * n + 16) ∧ (i 1).val = r

theorem mem_inSet {c s n : ℕ} {i : S2048x1x2048.Idx} :
    i ∈ inSet c s n ↔ 128 * s + 64 * c + 16 * n ≤ (i 0).val ∧ (i 0).val < 128 * s + 64 * c + 16 * n + 16 := by
  simp [inSet]

theorem mem_outSet {c s n r : ℕ} {i : S2048x4x2048.Idx} :
    i ∈ outSet c s n r ↔ (128 * s + 64 * c + 16 * n ≤ (i 0).val ∧ (i 0).val < 128 * s + 64 * c + 16 * n + 16) ∧ (i 1).val = r := by
  simp [outSet]

/-- A (16, 1, 2048) rectangle of `x` whose corner is the chunk's first row is the chunk. -/
theorem inRect_set {off : Fin 3 → ℕ} (inb : ∀ a, off a + S16x1x2048.size a ≤ S2048x1x2048.size a) {c s n : ℕ}
    (h : off = ![128 * s + 64 * c + 16 * n, 0, 0]) : (Rect.unit (s := S2048x1x2048) off S16x1x2048.size inb).set = inSet c s n := by
  subst h
  ext i
  have h1 : (i 1).val < 1 := (i 1).isLt
  have h2 : (i 2).val < 2048 := (i 2).isLt
  rw [Rect.mem_set_unit, mem_inSet, Fin.forall_fin_succ, Fin.forall_fin_succ, Fin.forall_fin_one]
  simp
  omega

/-- A (16, 1, 2048) rectangle of `y` whose corner is the chunk's first row at copy `r` is that block. -/
theorem outRect_set {off : Fin 3 → ℕ} (inb : ∀ a, off a + S16x1x2048.size a ≤ S2048x4x2048.size a) {c s n r : ℕ}
    (h : off = ![128 * s + 64 * c + 16 * n, r, 0]) : (Rect.unit (s := S2048x4x2048) off S16x1x2048.size inb).set = outSet c s n r := by
  subst h
  ext i
  have h2 : (i 2).val < 2048 := (i 2).isLt
  rw [Rect.mem_set_unit, mem_outSet, Fin.forall_fin_succ, Fin.forall_fin_succ, Fin.forall_fin_one]
  simp
  omega

/-! ## The blocks are the array -/

/-- The chunks of `x`, over all SparseCores, tiles and chunk numbers. -/
abbrev InIx : Type := (Fin 2 × Fin 16) × Fin 4
/-- The blocks of `y`: the same, and the copy. -/
abbrev OutIx : Type := (Fin 2 × Fin 16) × (Fin 4 × Fin 4)

/-- The indices of chunk `p` of `x`, and of block `p` of `y`. -/
def inAt (p : InIx) : Finset S2048x1x2048.Idx := inSet p.1.1.val p.1.2.val p.2.val
def outAt (p : OutIx) : Finset S2048x4x2048.Idx := outSet p.1.1.val p.1.2.val p.2.1.val p.2.2.val

/-- Different chunks of `x` share no index. -/
theorem inAt_disjoint : ∀ p ∈ (Finset.univ : Finset InIx), ∀ p' ∈ (Finset.univ : Finset InIx), p ≠ p' → Disjoint (inAt p) (inAt p') := by
  rintro ⟨⟨c, s⟩, n⟩ - ⟨⟨c', s'⟩, n'⟩ - h
  refine Finset.disjoint_left.mpr fun i hi hi' => h ?_
  have hi := mem_inSet.mp hi
  have hi' := mem_inSet.mp hi'
  simp only [Prod.mk.injEq, Fin.ext_iff]
  simp only at hi hi'
  omega

/-- Every index of `x` is in a chunk. -/
theorem inAt_cover : (Finset.univ : Finset InIx).biUnion inAt = Finset.univ := by
  ext i
  have h0 : (i 0).val < 2048 := (i 0).isLt
  simp only [Finset.mem_biUnion, Finset.mem_univ, true_and, iff_true]
  refine ⟨((⟨(i 0).val / 64 % 2, by omega⟩, ⟨(i 0).val / 128, by omega⟩), ⟨(i 0).val / 16 % 4, by omega⟩), mem_inSet.mpr ?_⟩
  simp only
  omega

/-- Different blocks of `y` share no index. -/
theorem outAt_disjoint : ∀ p ∈ (Finset.univ : Finset OutIx), ∀ p' ∈ (Finset.univ : Finset OutIx), p ≠ p' → Disjoint (outAt p) (outAt p') := by
  rintro ⟨⟨c, s⟩, n, r⟩ - ⟨⟨c', s'⟩, n', r'⟩ - h
  refine Finset.disjoint_left.mpr fun i hi hi' => h ?_
  have hi := mem_outSet.mp hi
  have hi' := mem_outSet.mp hi'
  simp only [Prod.mk.injEq, Fin.ext_iff]
  simp only at hi hi'
  omega

/-- Every index of `y` is in a block. -/
theorem outAt_cover : (Finset.univ : Finset OutIx).biUnion outAt = Finset.univ := by
  ext i
  have h0 : (i 0).val < 2048 := (i 0).isLt
  simp only [Finset.mem_biUnion, Finset.mem_univ, true_and, iff_true]
  have h1 : (i 1).val < 4 := (i 1).isLt
  refine ⟨((⟨(i 0).val / 64 % 2, by omega⟩, ⟨(i 0).val / 128, by omega⟩), ⟨(i 0).val / 16 % 4, by omega⟩, ⟨(i 1).val, h1⟩), mem_outSet.mpr ⟨?_, rfl⟩⟩
  simp only
  omega

/-! ## What the call computes -/

/-- The row of `x` that row `i 0` of the result repeats: the same row and column, at `x`'s one copy. -/
def srcIx (i : S2048x4x2048.Idx) : S2048x1x2048.Idx :=
  fun | 0 => i 0 | 1 => ⟨0, Nat.one_pos⟩ | 2 => i 2

/-- Every row of `x` four times over. -/
def rep {α : Type} (X : S2048x1x2048.Idx → α) : S2048x4x2048.Idx → α := fun i => X (srcIx i)

/-- Taken through a block of the result and the chunk of `x` of the same rows, an index of the block repeats the chunk's
    element at that index. -/
theorem rep_emb {α : Type} (X : S2048x1x2048.Idx → α) {off off' : Fin 3 → ℕ}
    (inb : ∀ a, off a + S16x1x2048.size a ≤ S2048x1x2048.size a) (inb' : ∀ a, off' a + S16x1x2048.size a ≤ S2048x4x2048.size a)
    {b r : ℕ} (h : off = ![b, 0, 0]) (h' : off' = ![b, r, 0]) (j : S16x1x2048.Idx) :
    rep X ((Rect.unit (s := S2048x4x2048) off' S16x1x2048.size inb').emb j) = X ((Rect.unit (s := S2048x1x2048) off S16x1x2048.size inb).emb j) := by
  subst h h'
  have h1 : (j 1).val < 1 := (j 1).isLt
  refine congrArg X (Shape.idx3_ext ?_ ?_ ?_)
  · simp [srcIx]
  · simp [srcIx]; omega
  · simp [srcIx]

end Cert.Proof

end
-- ==== Proof.Tile.lean ====
/-
  One tile of the SparseCore call, run once at a symbolic tile: what it is handed, what it does, what it hands back.

  Tile `(c, s)` is handed its four chunks of `x` and the sixteen blocks of `y` it writes (`tileRes`), and hands back the same
  with every block of `y` at the repeated rows. The run is stated for any float values, so both programs take it.
-/
module

public import proofs.«01_k».proof.Proof.Blocks
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The set-up of the launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's threads and semaphores are laid out as the launch needs. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch, as the tile names them -/

/-- `x` and `y` of device `d`. -/
abbrev xLoc (d : Dev nD) : Loc nD τ sig := (SparseCore.T d).loc main_v0
abbrev yLoc (d : Dev nD) : Loc nD τ sig := (SparseCore.T d).loc main_v1

local notation "xV" => (Memref.whole Cert.KernelIdeal.main_v0_scv : Memref Cert.KernelIdeal.sig Kind.scVector Space.hbm Cert.KernelIdeal.S2048x1x2048 EltTy.f32)
local notation "yV" => (Memref.whole Cert.KernelIdeal.main_v1_scv : Memref Cert.KernelIdeal.sig Kind.scVector Space.hbm Cert.KernelIdeal.S2048x4x2048 EltTy.f32)
local notation "bufA" => (Memref.whole Cert.KernelIdeal.cc0_scratch0 : Memref Cert.KernelIdeal.sig Kind.scVector Space.vmem Cert.KernelIdeal.S16x1x2048 EltTy.f32)
local notation "bufB" => (Memref.whole Cert.KernelIdeal.cc0_scratch1 : Memref Cert.KernelIdeal.sig Kind.scVector Space.vmem Cert.KernelIdeal.S16x1x2048 EltTy.f32)

/-- The SparseCore and the tile of the coordinates `L`, among the chip's. -/
abbrev cV (L : grid0.Coords) : Fin τ.nSC := (L 0).castLE hcore0
abbrev jV (L : grid0.Coords) : Fin τ.nSub := (L 1).castLE hsub0

/-- A chunk of `x`, and below it a block of `y`, by the corner of its rectangle. -/
abbrev xWin (off : Fin 3 → ℕ) (inb : ∀ a, off a + S16x1x2048.size a ≤ S2048x1x2048.size a) : Memref sig .scVector .hbm S16x1x2048 .f32 :=
  (xV).slice (Rect.unit (s := S2048x1x2048) off S16x1x2048.size inb) (fun _ => rfl)
/-- See `xWin`. It is not unfolded on its own: the run carries it by name, so that every block of `y` has the one closed shape. -/
def yWin (off : Fin 3 → ℕ) (inb : ∀ a, off a + S16x1x2048.size a ≤ S2048x4x2048.size a) : Memref sig .scVector .hbm S16x1x2048 .f32 :=
  (yV).slice (Rect.unit (s := S2048x4x2048) off S16x1x2048.size inb) (fun _ => rfl)

/-- The program's slice of `y` is that window, by name. -/
theorem yWin_fold (off : Fin 3 → ℕ) (inb : ∀ a, off a + S16x1x2048.size a ≤ S2048x4x2048.size a)
    (h : ∀ a, (Rect.unit (s := S2048x4x2048) off S16x1x2048.size inb).stride a = 1) :
    (yV).slice (Rect.unit (s := S2048x4x2048) off S16x1x2048.size inb) h = yWin off inb := rfl

section Tile

variable (d : Dev nD) (L : grid0.Coords)

/-- A window of `x` held by its own elements is the array held on the chunk's indices. -/
theorem pts_xWin {off : Fin 3 → ℕ} (inb : ∀ a, off a + S16x1x2048.size a ≤ S2048x1x2048.size a) {c s n : ℕ}
    (h : off = ![128 * s + 64 * c + 16 * n, 0, 0]) (f : Buf (Elt F) (xLoc d)) :
    ((xWin off inb).view.loc (V d (cV L) (jV L)) ↦[(xWin off inb).view.set]{fullShare} f : sProp 𝕄) = xLoc d ↦[inSet c s n]{fullShare} f := by
  rw [show (xWin off inb).view.set = inSet c s n from (View.set_slice_whole _ _).trans (inRect_set inb h)]

/-- A window of `y` whose corner is the chunk's first row at copy `r` takes that block's indices. -/
theorem set_yWin {off : Fin 3 → ℕ} (inb : ∀ a, off a + S16x1x2048.size a ≤ S2048x4x2048.size a) {c s n r : ℕ}
    (h : off = ![128 * s + 64 * c + 16 * n, r, 0]) : (yWin off inb).view.set = outSet c s n r :=
  (View.set_slice_whole _ _).trans (outRect_set inb h)

/-- A window of `y` held by its own elements is the array held on the block's indices. -/
theorem pts_yWin {off : Fin 3 → ℕ} (inb : ∀ a, off a + S16x1x2048.size a ≤ S2048x4x2048.size a) {c s n r : ℕ}
    (h : off = ![128 * s + 64 * c + 16 * n, r, 0]) (f : Buf (Elt F) (yLoc d)) :
    ((yWin off inb).view.loc (V d (cV L) (jV L)) ↦[(yWin off inb).view.set]{fullShare} f : sProp 𝕄) = yLoc d ↦[outSet c s n r]{fullShare} f := by
  rw [set_yWin inb h]
  rfl

/-! ## What a tile is handed -/

/-- The chunks of `x` at `X` and the blocks of `y` at `Y` of tile `s` of SparseCore `c`. -/
def tileRes (c s : ℕ) (X : Buf (Elt F) (xLoc d)) (Y : Buf (Elt F) (yLoc d)) : sProp 𝕄 :=
  iprop((bigSep Finset.univ fun n : Fin 4 => xLoc d ↦[inSet c s n.val]{fullShare} X)
    ∗ (bigSep Finset.univ fun n : Fin 4 => bigSep Finset.univ fun r : Fin 4 => yLoc d ↦[outSet c s n.val r.val]{fullShare} Y))

/-- Four things held at once, one by one. -/
theorem bigSep_four (Φ : Fin 4 → sProp 𝕄) : bigSep Finset.univ Φ = iprop(Φ 0 ∗ Φ 1 ∗ Φ 2 ∗ Φ 3) :=
  BI.bigSep_eq_bigSepL_of_eq [(0 : Fin 4), 1, 2, 3] (by decide) (by decide) Φ

variable (X : Buf (Elt F) (xLoc d)) (Y : Buf (Elt F) (yLoc d))

/-- The window of `x` at row offset `b` into the tile's rows, held in the program's spelling. -/
abbrev xAt (b : BitVec 32) (h : ∀ a, k0_off1 L b a + S16x1x2048.size a ≤ S2048x1x2048.size a) : sProp 𝕄 :=
  (xWin (k0_off1 L b) h).view.loc (V d (cV L) (jV L)) ↦[(xWin (k0_off1 L b) h).view.set]{fullShare} X
/-- The four windows of `y` at that offset, each at contents of its own. -/
abbrev yAt (b : BitVec 32) (h2 : ∀ a, k0_off2 L b a + S16x1x2048.size a ≤ S2048x4x2048.size a)
    (h3 : ∀ a, k0_off3 L b a + S16x1x2048.size a ≤ S2048x4x2048.size a) (h4 : ∀ a, k0_off4 L b a + S16x1x2048.size a ≤ S2048x4x2048.size a)
    (h5 : ∀ a, k0_off5 L b a + S16x1x2048.size a ≤ S2048x4x2048.size a) (Y2 Y3 Y4 Y5 : Buf (Elt F) (yLoc d)) : sProp 𝕄 :=
  iprop(((yWin (k0_off2 L b) h2).view.loc (V d (cV L) (jV L)) ↦[(yWin (k0_off2 L b) h2).view.set]{fullShare} Y2)
    ∗ ((yWin (k0_off3 L b) h3).view.loc (V d (cV L) (jV L)) ↦[(yWin (k0_off3 L b) h3).view.set]{fullShare} Y3)
    ∗ ((yWin (k0_off4 L b) h4).view.loc (V d (cV L) (jV L)) ↦[(yWin (k0_off4 L b) h4).view.set]{fullShare} Y4)
    ∗ ((yWin (k0_off5 L b) h5).view.loc (V d (cV L) (jV L)) ↦[(yWin (k0_off5 L b) h5).view.set]{fullShare} Y5))

/-- The window of `x` at chunk `n`'s offset is the chunk. -/
theorem xAt_eq (n : Fin 4) (b : BitVec 32) (hb : BitVec.ofNat 32 (16 * n.val) = b) (h : ∀ a, k0_off1 L b a + S16x1x2048.size a ≤ S2048x1x2048.size a) :
    (xAt d L X b h : sProp 𝕄) = xLoc d ↦[inSet (L 0).val (L 1).val n.val]{fullShare} X := by
  subst hb
  exact pts_xWin d L h (k0_off1_eq L n) X

/-- The four windows of `y` at chunk `n`'s offset, all at `Y`, are the chunk's blocks. -/
theorem yAt_eq (n : Fin 4) (b : BitVec 32) (hb : BitVec.ofNat 32 (16 * n.val) = b) (h2 : ∀ a, k0_off2 L b a + S16x1x2048.size a ≤ S2048x4x2048.size a)
    (h3 : ∀ a, k0_off3 L b a + S16x1x2048.size a ≤ S2048x4x2048.size a) (h4 : ∀ a, k0_off4 L b a + S16x1x2048.size a ≤ S2048x4x2048.size a)
    (h5 : ∀ a, k0_off5 L b a + S16x1x2048.size a ≤ S2048x4x2048.size a) :
    (yAt d L b h2 h3 h4 h5 Y Y Y Y : sProp 𝕄) = bigSep Finset.univ fun r : Fin 4 => yLoc d ↦[outSet (L 0).val (L 1).val n.val r.val]{fullShare} Y := by
  subst hb
  rw [bigSep_four]
  simp only [yAt]
  rw [pts_yWin d L h2 (k0_off2_eq L n), pts_yWin d L h3 (k0_off3_eq L n), pts_yWin d L h4 (k0_off4_eq L n), pts_yWin d L h5 (k0_off5_eq L n)]
  rfl

/-- What a tile is handed, window by window in the program's spelling. -/
theorem tileRes_eq : (tileRes d (L 0).val (L 1).val X Y : sProp 𝕄)
      = iprop((xAt d L X 0#32 (k0_off1_inb L 0) ∗ xAt d L X 16#32 (k0_off1_inb L 1) ∗ xAt d L X 32#32 (k0_off1_inb L 2) ∗ xAt d L X 48#32 (k0_off1_inb L 3))
        ∗ (yAt d L 0#32 (k0_off2_inb L 0) (k0_off3_inb L 0) (k0_off4_inb L 0) (k0_off5_inb L 0) Y Y Y Y
          ∗ yAt d L 16#32 (k0_off2_inb L 1) (k0_off3_inb L 1) (k0_off4_inb L 1) (k0_off5_inb L 1) Y Y Y Y
          ∗ yAt d L 32#32 (k0_off2_inb L 2) (k0_off3_inb L 2) (k0_off4_inb L 2) (k0_off5_inb L 2) Y Y Y Y
          ∗ yAt d L 48#32 (k0_off2_inb L 3) (k0_off3_inb L 3) (k0_off4_inb L 3) (k0_off5_inb L 3) Y Y Y Y)) := by
  rw [xAt_eq d L X 0 0#32 rfl, xAt_eq d L X 1 16#32 rfl, xAt_eq d L X 2 32#32 rfl, xAt_eq d L X 3 48#32 rfl,
    yAt_eq d L Y 0 0#32 rfl, yAt_eq d L Y 1 16#32 rfl, yAt_eq d L Y 2 32#32 rfl, yAt_eq d L Y 3 48#32 rfl]
  exact congrArg₂ (fun P Q => iprop(P ∗ Q)) (bigSep_four _) (bigSep_four _)

/-- Writing all of a view's elements, then looking where the view sends an index: the element written there. -/
theorem writes_whole_emb {κ : Kind} {sp : Space} {e : EltTy} {s : Shape} (v : View sig κ sp s e) (f : v.ty.Contents (Elt F)) (w : s.Idx → Elt F e)
    (j : s.Idx) : v.writes (Elt F) f [⟨Rect.whole s, w⟩] (v.emb j) = cast (congrArg (Elt F) v.elt_eq.symm) (w j) := by
  rw [← View.write_univ_eq_writes_whole, View.writes_nil, View.write_emb_of_mem _ _ (Finset.mem_univ j)]

/-- A window of `y` into which the elements of the chunk of `x` over the same rows were written holds the repeated rows. -/
theorem pts_landed {off off' : Fin 3 → ℕ} (inb : ∀ a, off a + S16x1x2048.size a ≤ S2048x1x2048.size a)
    (inb' : ∀ a, off' a + S16x1x2048.size a ≤ S2048x4x2048.size a) {b r : ℕ} (h : off = ![b, 0, 0]) (h' : off' = ![b, r, 0])
    (w : S16x1x2048.Idx → Elt F .f32) (hw : w = (xWin off inb).view.read (Elt F) X) :
    ((yWin off' inb').view.loc (V d (cV L) (jV L)) ↦[(yWin off' inb').view.set]{fullShare}
        (yWin off' inb').view.writes (Elt F) Y [⟨Rect.whole S16x1x2048, w⟩] : sProp 𝕄)
      = (yWin off' inb').view.loc (V d (cV L) (jV L)) ↦[(yWin off' inb').view.set]{fullShare} rep X := by
  refine pointsTo_congr fun i hi => ?_
  obtain ⟨j, -, rfl⟩ := Finset.mem_map.mp hi
  refine (writes_whole_emb (yWin off' inb').view Y w j).trans ((cast_eq _ _).trans ?_)
  rw [hw]
  exact (rep_emb X inb inb' h h' j).symm

/-- The four windows of `y` at chunk `n`'s offset, each written with the chunk of `x`, hold the repeated rows. -/
theorem yAt_landed (n : Fin 4) (b : BitVec 32) (hb : BitVec.ofNat 32 (16 * n.val) = b) (h1 : ∀ a, k0_off1 L b a + S16x1x2048.size a ≤ S2048x1x2048.size a)
    (h2 : ∀ a, k0_off2 L b a + S16x1x2048.size a ≤ S2048x4x2048.size a)
    (h3 : ∀ a, k0_off3 L b a + S16x1x2048.size a ≤ S2048x4x2048.size a) (h4 : ∀ a, k0_off4 L b a + S16x1x2048.size a ≤ S2048x4x2048.size a)
    (h5 : ∀ a, k0_off5 L b a + S16x1x2048.size a ≤ S2048x4x2048.size a)
    (w : S16x1x2048.Idx → Elt F .f32) (hw : w = (xWin (k0_off1 L b) h1).view.read (Elt F) X) :
    (yAt d L b h2 h3 h4 h5 ((yWin _ h2).view.writes (Elt F) Y [⟨Rect.whole S16x1x2048, w⟩]) ((yWin _ h3).view.writes (Elt F) Y [⟨Rect.whole S16x1x2048, w⟩])
        ((yWin _ h4).view.writes (Elt F) Y [⟨Rect.whole S16x1x2048, w⟩]) ((yWin _ h5).view.writes (Elt F) Y [⟨Rect.whole S16x1x2048, w⟩]) : sProp 𝕄)
      = yAt d L b h2 h3 h4 h5 (rep X) (rep X) (rep X) (rep X) := by
  subst hb
  simp only [yAt]
  rw [pts_landed d L X Y h1 h2 (k0_off1_eq L n) (k0_off2_eq L n) w hw, pts_landed d L X Y h1 h3 (k0_off1_eq L n) (k0_off3_eq L n) w hw,
    pts_landed d L X Y h1 h4 (k0_off1_eq L n) (k0_off4_eq L n) w hw, pts_landed d L X Y h1 h5 (k0_off1_eq L n) (k0_off5_eq L n) w hw]
  rfl

/-! ## The tile's own semaphores and buffers -/

/-- The tile's four DMA cells: the two reads', the two writes'. -/
abbrev rCellA : GSem nD τ sig := (V d (cV L) (jV L), .dma cc0_scratch2.sem)
abbrev rCellB : GSem nD τ sig := (V d (cV L) (jV L), .dma cc0_scratch3.sem)
abbrev wCellA : GSem nD τ sig := (V d (cV L) (jV L), .dma cc0_scratch4.sem)
abbrev wCellB : GSem nD τ sig := (V d (cV L) (jV L), .dma cc0_scratch5.sem)

/-- A tile's DMA cell is one of its own. -/
theorem cell_mem (s : DmaSem sig) (h : (SemLoc.dma s : SemLoc sig).isScoped .scVector = true) :
    ((V d (cV L) (jV L), .dma s) : GSem nD τ sig) ∈ ownCells (V d (cV L) (jV L)) := mem_ownCells.mpr ⟨rfl, h⟩

/-- Different DMA semaphores are different cells. -/
theorem cell_ne {s s' : DmaSem sig} (h : s ≠ s') : ((V d (cV L) (jV L), .dma s) : GSem nD τ sig) ≠ (V d (cV L) (jV L), .dma s') :=
  fun e => h (by simpa using e)

/-- The tile's four DMA cells at zero, and the rest of its cells. -/
theorem ownSems0_V :
    (ownSems0 (V d (cV L) (jV L)) : sProp 𝕄)
      = iprop(semVal (rCellA d L) 0 ∗ semVal (rCellB d L) 0 ∗ semVal (wCellA d L) 0 ∗ semVal (wCellB d L) 0
          ∗ bigSep (((((ownCells (V d (cV L) (jV L))).erase (rCellA d L)).erase (rCellB d L)).erase (wCellA d L)).erase (wCellB d L)) fun g => semVal g 0) := by
  unfold SparseCore.Cfg.ownSems0
  rw [SparseCore.bigSep_erase' (cell_mem d L cc0_scratch2.sem (by decide)),
    SparseCore.bigSep_erase' (Finset.mem_erase.mpr ⟨cell_ne d L (by decide), cell_mem d L cc0_scratch3.sem (by decide)⟩),
    SparseCore.bigSep_erase' (Finset.mem_erase.mpr ⟨cell_ne d L (by decide), Finset.mem_erase.mpr ⟨cell_ne d L (by decide), cell_mem d L cc0_scratch4.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scratch5.sem (by decide)⟩⟩⟩)]

/-- The tile's two buffers at some contents, and the rest of what it owns. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr
    ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩)]

/-! ## The run -/

variable [FloatOps F]

/-- What a tile is handed (`Y` before), it hands back with every one of its blocks of `y` at the repeated rows of `x`. -/
theorem tile_run (hF : (K (F := F)).Facts) (O : CellTallies nD τ sig (HIx 1)) (W : Waits sig (HIx 1)) (hO : ∀ g, O g none = 0) :
    iprop(levAts (K (F := F)).L (K (F := F)).lev ∗ emp ∗ tileRes d (L 0).val (L 1).val X Y
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__upsample L xV (Memref.isWhole_whole _) yV (Memref.isWhole_whole _) bufA (Memref.isWhole_whole _) bufB (Memref.isWhole_whole _)
            cc0_scratch2 cc0_scratch3 cc0_scratch4 cc0_scratch5)
          fun _ => iprop(tileRes d (L 0).val (L 1).val X (rep X)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__upsample_eq_skeleton, cc0__upsample_skel, k0_part1_eq_skeleton, k0_part1_skel, k0_part2_eq_skeleton, k0_part2_skel,
    k0_part3_eq_skeleton, k0_part3_skel, k0_part4_eq_skeleton, k0_part4_skel, k0_part5_eq_skeleton, k0_part5_skel, ↓yWin_fold]
  rw [(K (F := F)).scopedBufs_V hF d (cV L) (jV L), SparseCore.Cfg.scopedSems0_V (Val := Elt F) d (cV L) (jV L), ownSems0_V, ownBufs_V, tileRes_eq]
  have _planA : Transfers.BatchOf (V d (cV L) (jV L)) (SemLoc.dma (sig := sig) cc0_scratch4.sem) 4 (windows := true) := trivial
  have _planB : Transfers.BatchOf (V d (cV L) (jV L)) (SemLoc.dma (sig := sig) cc0_scratch5.sem) 4 (windows := true) := trivial
  iintro ⟨#Hlv, -, ⟨⟨Hx0, Hx1, Hx2, Hx3⟩, ⟨Hy00, Hy01, Hy02, Hy03⟩, ⟨Hy10, Hy11, Hy12, Hy13⟩, ⟨Hy20, Hy21, Hy22, Hy23⟩, ⟨Hy30, Hy31, Hy32, Hy33⟩⟩,
    ⟨⟨%fA, HA⟩, ⟨%fB, HB⟩, Hbufs⟩, ⟨HrA, HrB, HwA, HwB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HA' := (show ((V d (cV L) (jV L)).loc cc0_scratch0 ↦{fullShare} fA : sProp 𝕄) ⊢ (bufA).view.loc (V d (cV L) (jV L)) ↦{fullShare} fA from .rfl) $$ HA
  ihave HB' := (show ((V d (cV L) (jV L)).loc cc0_scratch1 ↦{fullShare} fB : sProp 𝕄) ⊢ (bufB).view.loc (V d (cV L) (jV L)) ↦{fullShare} fB from .rfl) $$ HB
  sl_exec
  sl_step
  rw [tileRes_eq]
  rw [← yAt_landed d L X Y 0 0#32 rfl (k0_off1_inb L 0) _ _ _ _ (tile_run.sl.dma2 d L X fA) (View.read_write_univ _ _),
    ← yAt_landed d L X Y 1 16#32 rfl (k0_off1_inb L 1) _ _ _ _ (tile_run.sl.dma7 d L X fB) (View.read_write_univ _ _),
    ← yAt_landed d L X Y 2 32#32 rfl (k0_off1_inb L 2) _ _ _ _ (tile_run.sl.dma12 d L X fA) (View.read_write_univ _ _),
    ← yAt_landed d L X Y 3 48#32 rfl (k0_off1_inb L 3) _ _ _ _ (tile_run.sl.dma16 d L X fB) (View.read_write_univ _ _)]
  simp only [xAt, yAt]
  iframe
  isplitl [HA' HB']
  · isplitl [HA']
    · iexists _; iexact HA'
    iexists _; iexact HB'
  isplitl [HrA HrB HwA HwB]
  · isplitl [HrA]; · iexact HrA
    isplitl [HrB]; · iexact HrB
    isplitl [HwA]; · iexact HwA
    iexact HwB
  iexists _
  isplitr
  swap; · iexact HO
  ipureintro
  intro p _
  rcases p.2 with _ | q
  · exact .inr (.inl rfl)
  · exact .inr (.inr (congrArg some (Subsingleton.elim q 0)))

end Tile

end Cert.Proof

end
-- ==== Proof.Launch.lean ====
/-
  The whole program: @main on the TensorCore, the call on the SparseCores, and what every execution ends with.

  @main reshapes its second argument into the call's operand, starts the call, and reshapes the call's result. Each
  SparseCore is handed what its tiles are (`tileRes`, Tile.lean), over all its tiles, so the sequencer deals without cutting
  anything; the arrays are cut once, on the TensorCore's side (`arrays_cut`), and joined there again.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays cut and joined -/

/-- `x` and `y` whole are what the tiles of all SparseCores are handed. -/
theorem arrays_cut (d : Dev nD) (X : Buf (Elt F) (xLoc d)) (Y : Buf (Elt F) (yLoc d)) :
    (iprop((xLoc d ↦{fullShare} X) ∗ (yLoc d ↦{fullShare} Y)) : sProp 𝕄)
      = bigSep Finset.univ fun c : Fin 2 => bigSep Finset.univ fun s : Fin 16 => tileRes d c.val s.val X Y := by
  have hx : (xLoc d ↦{fullShare} X : sProp 𝕄) = bigSep Finset.univ fun p : InIx => xLoc d ↦[inAt p]{fullShare} X := by
    rw [← pointsTo_biUnion Finset.univ (ℓ := xLoc d) inAt inAt_disjoint, inAt_cover]
  have hy : (yLoc d ↦{fullShare} Y : sProp 𝕄) = bigSep Finset.univ fun p : OutIx => yLoc d ↦[outAt p]{fullShare} Y := by
    rw [← pointsTo_biUnion Finset.univ (ℓ := yLoc d) outAt outAt_disjoint, outAt_cover]
  rw [hx, hy]
  simp only [bigSep_univ_prod, tileRes, bigSep_sep']
  rfl

/-! ## The contents along @main -/

variable (m : (ℓ : Loc nD τ sig) → Buf (Elt F) ℓ) (ρ : Dev nD → PrngReg)

/-- Device `d`'s two arguments and its result. -/
abbrev pLoc (d : Dev nD) : Loc nD τ sig := (SparseCore.T d).loc main_arg0
abbrev qLoc (d : Dev nD) : Loc nD τ sig := (SparseCore.T d).loc main_arg1
abbrev zLoc (d : Dev nD) : Loc nD τ sig := (SparseCore.T d).loc main_v2

/-- The call's operand: the second argument at the operand's shape. -/
def opnd (d : Dev nD) : Buf (Elt F) (xLoc d) := shapeCast S2048x1x2048 (m (qLoc d)) shapeCasts_S2048x2048_S2048x1x2048
/-- The program's result: the repeated rows at the result's shape. -/
def outp (d : Dev nD) : Buf (Elt F) (zLoc d) := shapeCast S8192x2048 (rep (opnd m d)) shapeCasts_S2048x4x2048_S8192x2048

/-! ## What the handshakes carry -/

/-- A tile is handed its blocks with `y` as launched and hands them back with `y` at the repeated rows; a SparseCore is handed,
    and hands back, the same for all its tiles. -/
def P : (K (F := F)).Pay (nD := nD) (Val := Elt F) (Name := ℕ) (U := UU) where
  st := fun q d c => match q with
    | 0 => bigSep Finset.univ fun s : Fin ((K (F := F)).nSub 0) => tileRes d c.val s.val (opnd m d) (m (yLoc d))
  dn := fun q d c => match q with
    | 0 => bigSep Finset.univ fun s : Fin ((K (F := F)).nSub 0) => tileRes d c.val s.val (opnd m d) (rep (opnd m d))
  go := fun q d c s => match q with | 0 => tileRes d c.val s.val (opnd m d) (m (yLoc d))
  td := fun q d c s => match q with | 0 => tileRes d c.val s.val (opnd m d) (rep (opnd m d))
  x := fun _ _ => iprop(emp)

instance tileRes_storable (d : Dev nD) (c s : ℕ) (X : Buf (Elt F) (xLoc d)) (Y : Buf (Elt F) (yLoc d)) :
    BI.Storable (upEmb : UEmb _ 𝕄) (tileRes d c s X Y) := by
  unfold tileRes; infer_instance

instance P_storable : (P (F := F) m).IsStorable where
  st q d c := match q with
    | 0 => (inferInstance : BI.Storable (upEmb : UEmb _ 𝕄)
        (bigSep Finset.univ fun s : Fin ((K (F := F)).nSub 0) => tileRes d c.val s.val (opnd m d) (m (yLoc d))))
  dn q d c := match q with
    | 0 => (inferInstance : BI.Storable (upEmb : UEmb _ 𝕄)
        (bigSep Finset.univ fun s : Fin ((K (F := F)).nSub 0) => tileRes d c.val s.val (opnd m d) (rep (opnd m d))))
  go q d c s := match q with | 0 => tileRes_storable d c.val s.val (opnd m d) (m (yLoc d))
  td q d c s := match q with | 0 => tileRes_storable d c.val s.val (opnd m d) (rep (opnd m d))

/-- The sequencer's split is the identity both ways. -/
theorem vecSplit : (K (F := F)).VecSplit' (P m) 0 := by
  intro d c
  show (bigSep Finset.univ fun s : Fin ((K (F := F)).nSub 0) => tileRes d c.val s.val (opnd m d) (m (yLoc d)) : sProp 𝕄) ⊢ |={Set.univ}=> iprop(
    (bigSep Finset.univ fun s : Fin ((K (F := F)).nSub 0) => tileRes d c.val s.val (opnd m d) (m (yLoc d)))
    ∗ ((bigSep Finset.univ fun s : Fin ((K (F := F)).nSub 0) => tileRes d c.val s.val (opnd m d) (rep (opnd m d)))
      -∗ bigSep Finset.univ fun s : Fin ((K (F := F)).nSub 0) => tileRes d c.val s.val (opnd m d) (rep (opnd m d))))
  iintro H; imodintro
  isplitl [H]; · iexact H
  iintro H; iexact H

/-- What the SparseCores are handed together is the operand, and the call's result as launched. -/
theorem st_eq (d : Dev nD) : (bigSep Finset.univ fun c : Fin ((K (F := F)).nCore 0) => (P m).st 0 d c)
    = iprop((xLoc d ↦{fullShare} opnd m d) ∗ (yLoc d ↦{fullShare} m (yLoc d))) := (arrays_cut d (opnd m d) (m (yLoc d))).symm
/-- What they hand back together is the operand, and the repeated rows. -/
theorem dn_eq (d : Dev nD) : (bigSep Finset.univ fun c : Fin ((K (F := F)).nCore 0) => (P m).dn 0 d c)
    = iprop((xLoc d ↦{fullShare} opnd m d) ∗ (yLoc d ↦{fullShare} rep (opnd m d))) := (arrays_cut d (opnd m d) (rep (opnd m d))).symm

/-! ## The launch element: the handshakes' rounds, nothing of the kernel's own -/

/-- The launch element. -/
def u₀ : UU := (initOf (K (F := F)).hsCells (K (F := F)).hsToks, 1)

/-- It yields the handshakes' rounds. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : ∀ {I : Type} (s : Finset I), (bigSep s fun _ => iprop(emp)) = (iprop(emp) : sProp 𝕄) := fun s => bigSep_emp_const s
  rw [show (bigSep Finset.univ fun thr : Thread nD τ => bigSep Finset.univ fun q : Fin 1 => (P (F := F) m).x q thr) = iprop(emp) from
    (bigSep_congr fun _ _ => hemp _).trans (hemp _), hemp]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

variable [FloatOps F]

/-! ## A tile's obligation -/

/-- Core `c` and tile `s` as the kernel's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel's body at its coordinates. -/
theorem defs₀_vector (c : Fin τ.nSC) (s : Fin τ.nSub) :
    defs₀ (F := F) (.scVector c s) 0 ()
      = SparseCore.onTile hcore0 hsub0 (fun c s => cc0__upsample (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          cc0_scratch2 cc0_scratch3 cc0_scratch4 cc0_scratch5) ⟨⟩ c s := rfl

/-- Every tile, started with what the call hands it, runs its body and hands back what `P` says. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_run d (coordsV ⟨_, hci.1⟩ ⟨_, hci.2⟩) (opnd m d) (m (yLoc d)) hF O W hO

/-! ## @main -/

include m in
/-- A reshape on the TensorCore, from its two arrays: the first keeps its contents, the second ends with them at its own shape. -/
theorem wp_reshape (d : Dev nD) {x y : Ref sig .tc} (hxy : x ≠ y) (he : x.ty.elt = y.ty.elt) (hn : x.ty.shape.ShapeCasts y.ty.shape)
    (hx : x.space ≠ .host ∧ (Proc.devRef (τ := τ) .tc x).isScoped = false) (hy : y.space ≠ .host ∧ (Proc.devRef (τ := τ) .tc y).isScoped = false)
    (hp : (SparseCore.T d : Thread nD τ).2.kind.runsHlo = true) (f : Buf (Elt F) ((SparseCore.T d).loc x)) (g : Buf (Elt F) ((SparseCore.T d).loc y))
    (Q : PUnit → sProp 𝕄) :
    iprop(boundary (SparseCore.T d) ∗ ((SparseCore.T d).loc x ↦{fullShare} f) ∗ ((SparseCore.T d).loc y ↦{fullShare} g))
      ⊢ iprop(((boundary (SparseCore.T d) ∗ ((SparseCore.T d).loc x ↦{fullShare} f)
            ∗ ((SparseCore.T d).loc y ↦{fullShare} fun i => he ▸ shapeCast y.ty.shape f hn i)) -∗ Q ⟨⟩)
        -∗ wp frame (wpE ((K (F := F)).defs (D (F := F))) 𝒱 (SparseCore.T d) none) Set.univ
            (hlo hp (StableHlo.reshape x y he hn hx hy) fun _ => .ret ⟨⟩) Q) := by
  have hne : Proc.devRef (τ := τ) .tc x ≠ Proc.devRef .tc y := fun e => hxy (Proc.devRef_injective _ e)
  let W : Valuation τ sig (Elt F) := Function.update (Function.update (fun b => m (d, b)) (Proc.devRef .tc x) f) (Proc.devRef .tc y) g
  have hWx : W (Proc.devRef .tc x) = f := (Function.update_of_ne hne _ _).trans (Function.update_self _ _ _)
  have hWy : W (Proc.devRef .tc y) = g := Function.update_self _ _ _
  have hheld : ∀ U : Valuation τ sig (Elt F), (held (SparseCore.T d) {Proc.devRef .tc x, Proc.devRef .tc y} U : sProp 𝕄)
      = iprop(((SparseCore.T d).loc x ↦{fullShare} U (Proc.devRef .tc x)) ∗ ((SparseCore.T d).loc y ↦{fullShare} U (Proc.devRef .tc y))) := fun U => by
    unfold held
    rw [SparseCore.bigSep_insert' (by simpa using hne), bigSep_singleton]
  iintro ⟨Hb, Hx, Hy⟩ Hk
  iapply (wp_hlo_within 𝒱 (SparseCore.T d) none Set.univ (op := StableHlo.reshape x y he hn hx hy) (S := {Proc.devRef .tc x, Proc.devRef .tc y})
    (reshape_bufs x y he hn hx hy).subset (V := W) rfl) $$ [Hb Hx Hy]
  · rw [hheld, hWx, hWy]
    isplitl [Hb]; · iexact Hb
    isplitl [Hx]; · iexact Hx
    iexact Hy
  rw [hheld, reshape_result_ne x y he hn hx hy W hxy, reshape_result x y he hn hx hy W, hWx, wp_ret]
  iintro H
  imodintro
  iapply Hk
  iexact H

/-- The TensorCore's five arrays. -/
theorem unscopedBufs_eq (d : Dev nD) (W : (b : Ref sig .tc) → Buf (Elt F) ((d.tc : Thread nD τ).loc b)) :
    (unscopedBufs d W : sProp 𝕄)
      = iprop((pLoc d ↦{fullShare} W main_arg0) ∗ (qLoc d ↦{fullShare} W main_arg1) ∗ (xLoc d ↦{fullShare} W main_v0)
          ∗ (yLoc d ↦{fullShare} W main_v1) ∗ zLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- What @main keeps: the arguments as launched, the result at the repeated rows. -/
abbrev FIN (d : Dev nD) : sProp 𝕄 :=
  iprop((pLoc d ↦{fullShare} m (pLoc d)) ∗ (qLoc d ↦{fullShare} m (qLoc d)) ∗ zLoc d ↦{fullShare} outp m d)

/-- @main on device `d`'s TensorCore, from its arrays as launched to `FIN`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hq, Hx, Hy, Hz⟩, Hts, -⟩, -⟩
  iapply (wp_reshape m d (show (main_arg1 : Ref sig .tc) ≠ main_v0 by decide) rfl shapeCasts_S2048x2048_S2048x1x2048 ⟨by decide, rfl⟩ ⟨by decide, rfl⟩ rfl
    (m (qLoc d)) (m (xLoc d)) _) $$ [Hb Hq Hx]
  · isplitl [Hb]; · iexact Hb
    isplitl [Hq]; · iexact Hq
    iexact Hx
  iintro ⟨Hb, Hq, Hx⟩
  iapply ((K (F := F)).wp_run (D (F := F)) 𝒱 (EH := EH) (P := P m) κ d 0) $$ [Hst Hp Hq Hx Hy Hz Hb Hts]
  isplitr; · iexact Hctx
  isplitl [Hst]; · iexact Hst
  isplitl [Hx Hy]
  · rw [st_eq]
    isplitl [Hx]; · iexact Hx
    iexact Hy
  rw [dn_eq]
  iintro ⟨Hst, ⟨Hx, Hy⟩⟩
  iapply (wp_reshape m d (show (main_v1 : Ref sig .tc) ≠ main_v2 by decide) rfl shapeCasts_S2048x4x2048_S8192x2048 ⟨by decide, rfl⟩ ⟨by decide, rfl⟩ rfl
    (rep (opnd m d)) (m (zLoc d)) _) $$ [Hb Hy Hz]
  · isplitl [Hb]; · iexact Hb
    isplitl [Hy]; · iexact Hy
    iexact Hz
  iintro ⟨Hb, Hy, Hz⟩
  imodintro
  isplitl [Hst]; · iexact Hst
  isplitr [Hb Hts]
  · isplitl [Hp]; · iexact Hp
    isplitl [Hq]; · iexact Hq
    iexact Hz
  isplitl [Hb] <;> iassumption

/-! ## What every execution ends with -/

omit [FloatOps F] in
/-- An array held whole at `f` holds `f` in the memory. -/
theorem holds (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr [HSI]
  · ipureintro; exact funext fun i => h i (Finset.mem_univ i)
  iexact HSI

/-- Device `d`'s result holds the repeated rows and its arguments what they were launched with. -/
def fq (d : Dev nD) (s' : Phys nD τ sig (Elt F)) : Prop :=
  s'.mem.mem (zLoc d) = outp m d ∧ s'.mem.mem (pLoc d) = m (pLoc d) ∧ s'.mem.mem (qLoc d) = m (qLoc d)

/-- What @main keeps determines that. -/
theorem hfin (d : Dev nD) (s' : Phys nD τ sig (Elt F)) : iprop(FIN m d ∗ SI s') ⊢ (⌜fq m d s'⌝ : sProp 𝕄) := by
  iintro ⟨⟨Hp, Hq, Hz⟩, HSI⟩
  ihave H := (holds _ _ s') $$ [Hp HSI]
  · isplitl [Hp] <;> iassumption
  icases H with ⟨%hp, HSI⟩
  ihave H := (holds _ _ s') $$ [Hq HSI]
  · isplitl [Hq] <;> iassumption
  icases H with ⟨%hq, HSI⟩
  ihave H := (holds _ _ s') $$ [Hz HSI]
  · isplitl [Hz] <;> iassumption
  icases H with ⟨%hz, -⟩
  ipureintro; exact ⟨hz, hp, hq⟩

/-- The same on every device, and every semaphore at zero. -/
def QC : PUnit × MemSt nD τ sig (Elt F) → Prop := fun r =>
  (∀ c : Dev nD, r.2.mem (zLoc c) = outp m c ∧ r.2.mem (pLoc c) = m (pLoc c) ∧ r.2.mem (qLoc c) = m (qLoc c)) ∧ r.2.sem = fun _ => 0

/-- From any launch memory every execution ends with the result at the repeated rows, the arguments unchanged and every
    semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Value.lean ====
/-
  The two programs' results are one array, and the claims about the reference.

  The kernel's result is its second argument reshaped to (2048, 1, 2048), every row four times over, reshaped to
  (8192, 2048). The reference's is the same argument broadcast to (2048, 4, 2048), reshaped the same way.
-/
module

public import proofs.«01_k».proof.Proof.Blocks
public import proofs.«01_k».proof.Proof.Gen.ReferenceIdeal.Run
public import Idealize.ShloMosaic.Lib.Quiescent
public import Idealize.ShloMosaic.Lib.Pipeline.Value

@[expose] public section

noncomputable section

namespace Cert.Proof

open Idealize.ShloMosaic Idealize.SL.Sem

/-- The rows of a (2048, 2048) array, each four times over, are the array broadcast along a new axis of four: at `(n, r, j)` both read `(n, j)`. -/
theorem rep_eq_broadcast {α : Type} (q : Cert.KernelIdeal.S2048x2048.Idx → α) :
    rep (shapeCast Cert.KernelIdeal.S2048x1x2048 q Cert.KernelIdeal.Gen.shapeCasts_S2048x2048_S2048x1x2048)
      = broadcastInDim Cert.ReferenceIdeal.S2048x4x2048 ![0, 2] Cert.ReferenceIdeal.Gen.bcast_S2048x2048_S2048x4x2048_0_2 q := by
  funext i
  have hi0 : (i 0).val < 2048 := (i 0).isLt
  have hi2 : (i 2).val < 2048 := (i 2).isLt
  let k : Cert.KernelIdeal.S2048x2048.Idx := fun | 0 => ⟨(i 0).val, hi0⟩ | 1 => ⟨(i 2).val, hi2⟩
  refine (shapeCast_apply q _ (srcIx i) k ?_).trans (broadcastInDim_apply ![0, 2] _ q i k ?_).symm
  · rw [Shape.rowMajor_val_two, Shape.rowMajor_val_three]
    show (i 0).val * 2048 + (i 2).val = ((i 0).val * 1 + 0) * 2048 + (i 2).val
    omega
  · exact Fin.forall_fin_two.mpr ⟨rfl, rfl⟩

/-- The reference terminates with its arguments unchanged; it has no semaphore, so none is left raised. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.lean ====
/- The five claims of `Cert.Claim` (proofs.«01_k».proof.Defs), put together. The kernel's run is Proof/Launch.lean's `run_main`, at
   any float values: each frame is that run with the result forgotten, and the value claim is it beside the reference's run, the
   two results equal by Proof/Value.lean's `rep_eq_broadcast`. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel as printed terminates with its arguments unchanged and every semaphore at zero. -/
theorem frame_kernel : Cert.quiescent_Kernel := fun m ρ _ =>
  (θ_run Cert.KernelIdeal.defs _ _).mono (fun _ h => ⟨fun c => (h.1 c).2, h.2⟩) (run_main (F := Bits) m ρ)

/-- So does the kernel over the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The kernel's result is the reference's function of the second argument. -/
theorem outp_eq {F : FTy → Type} (m : (ℓ : Loc Cert.KernelIdeal.nD Cert.KernelIdeal.τ Cert.KernelIdeal.sig) → Buf (Elt F) ℓ) (c : Dev Cert.KernelIdeal.nD) :
    outp m c = shapeCast Cert.ReferenceIdeal.S8192x2048 (broadcastInDim Cert.ReferenceIdeal.S2048x4x2048 ![0, 2]
      Cert.ReferenceIdeal.Gen.bcast_S2048x2048_S2048x4x2048_0_2 (m (qLoc c))) Cert.ReferenceIdeal.Gen.shapeCasts_S2048x4x2048_S8192x2048 :=
  congrArg (fun Y => shapeCast Cert.ReferenceIdeal.S8192x2048 Y Cert.ReferenceIdeal.Gen.shapeCasts_S2048x4x2048_S8192x2048) (rep_eq_broadcast (m (qLoc c)))

/-- From memories that agree on the arguments, kernel and reference end with one result, the arguments unchanged. -/
theorem value : Cert.algebraic_KernelIdeal_ReferenceIdeal := fun m g m' g' _ hargs =>
  ⟨fun c => outp m c,
    (θ_run Cert.KernelIdeal.defs _ _).mono (fun _ h => h.1) (run_main (F := Ideal) m g),
    (θ_run Cert.ReferenceIdeal.defs _ _).mono
      (fun _ h c => ⟨(h c).1.trans (by rw [(hargs c).2]; exact (outp_eq m c).symm), (h c).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
